-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_weights_finite : Cert.Pre_weights_finite.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ preserves_Kernel_KernelIdeal
    ∧ algebraic_KernelIdeal_ReferenceIdeal_pre_weights_finite (hKernelIdeal := hKernelIdeal) (hReferenceIdeal := hReferenceIdeal) (hPre_weights_finite := hPre_weights_finite)
-- ==== Pre_weights_finite.lean ====
abbrev S32768x1024 : Shape := ⟨2, ![32768, 1024]⟩
abbrev S16x2 : Shape := ⟨2, ![16, 2]⟩
abbrev S256x1024 : Shape := ⟨2, ![256, 1024]⟩
abbrev S32x256 : Shape := ⟨2, ![32, 256]⟩
abbrev S_ : Shape := ⟨0, ![]⟩

class Facts : Prop where
  bcast_S_S32x256 : S_.BroadcastsInDim S32x256 (![] : Fin 0 → Fin S32x256.rank)

variable [Facts]

def fn {F : FTy → Type} [FloatOps F] (main_arg0 : FVec F S32768x1024 .f32) (main_arg1 : IVec S16x2 32) (main_arg2 : FVec F S256x1024 .f32) (main_arg3 : FVec F S32x256 .f32) : IVec S32x256 1 :=
  let main_v0 : FVec F S32x256 .f32 := Host.absf main_arg3
  let main_cst : FVec F S_ .f32 := constant S_ .f32 0x7F800000#32
  let main_v1 : FVec F S32x256 .f32 := broadcastInDim S32x256 ![] bcast_S_S32x256 main_cst
  let main_v2 : IVec S32x256 1 := cmpf .olt main_v0 main_v1
  main_v2
-- ==== Kernel.lean ====
abbrev S32768x1024 : Shape := ⟨2, ![32768, 1024]⟩
abbrev S16x2 : Shape := ⟨2, ![16, 2]⟩
abbrev S256x1024 : Shape := ⟨2, ![256, 1024]⟩
abbrev S32x256 : Shape := ⟨2, ![32, 256]⟩
abbrev S512x1024 : Shape := ⟨2, ![512, 1024]⟩
abbrev S2048x512 : Shape := ⟨2, ![2048, 512]⟩
abbrev S32x1024 : Shape := ⟨2, ![32, 1024]⟩
abbrev S256x512 : Shape := ⟨2, ![256, 512]⟩
abbrev S512x256 : Shape := ⟨2, ![512, 256]⟩
abbrev S2048x256 : Shape := ⟨2, ![2048, 256]⟩
abbrev S256x32 : Shape := ⟨2, ![256, 32]⟩
abbrev S2048x32 : Shape := ⟨2, ![2048, 32]⟩
abbrev S32 : Shape := ⟨1, ![32]⟩
abbrev S1x32 : Shape := ⟨2, ![1, 32]⟩
abbrev S32x512 : Shape := ⟨2, ![32, 512]⟩
abbrev S32x1 : Shape := ⟨2, ![32, 1]⟩
abbrev S16x32768 : Shape := ⟨2, ![16, 32768]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S16x2, .i32⟩
  | .hbm, ⟨2, _⟩ => ⟨S256x1024, .f32⟩
  | .hbm, ⟨3, _⟩ => ⟨S32x256, .f32⟩
  | .hbm, ⟨4, _⟩ => ⟨S512x1024, .f32⟩
  | .hbm, ⟨5, _⟩ => ⟨S16x32768, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S256x1024, .f32⟩
  | .local _ .vmem, ⟨5, _⟩ => ⟨S32x256, .f32⟩
  | .local _ .vmem, ⟨6, _⟩ => ⟨S32x1024, .f32⟩
  | .local _ .vmem, ⟨7, _⟩ => ⟨S32x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x1024 : Shape := ⟨2, ![32768, 1024]⟩
abbrev S16x2 : Shape := ⟨2, ![16, 2]⟩
abbrev S256x1024 : Shape := ⟨2, ![256, 1024]⟩
abbrev S32x256 : Shape := ⟨2, ![32, 256]⟩
abbrev S16x2048x1024 : Shape := ⟨3, ![16, 2048, 1024]⟩
abbrev S16x1024x2048 : Shape := ⟨3, ![16, 1024, 2048]⟩
abbrev S256x16x2048 : Shape := ⟨3, ![256, 16, 2048]⟩
abbrev S32x16x2048 : Shape := ⟨3, ![32, 16, 2048]⟩
abbrev S_ : Shape := ⟨0, ![]⟩
abbrev S32x16 : Shape := ⟨2, ![32, 16]⟩
abbrev S16x32 : Shape := ⟨2, ![16, 32]⟩
abbrev S16x32x1 : Shape := ⟨3, ![16, 32, 1]⟩
abbrev S16x32x2048 : Shape := ⟨3, ![16, 32, 2048]⟩
abbrev S16x32x1024 : Shape := ⟨3, ![16, 32, 1024]⟩
abbrev S16x32768 : Shape := ⟨2, ![16, 32768]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x2, .i32⟩
  | .hbm, ⟨2, _⟩ => ⟨S256x1024, .f32⟩
  | .hbm, ⟨3, _⟩ => ⟨S32x256, .f32⟩
  | .hbm, ⟨4, _⟩ => ⟨S16x2048x1024, .f32⟩
  | .hbm, ⟨5, _⟩ => ⟨S16x1024x2048, .f32⟩
  | .hbm, ⟨6, _⟩ => ⟨S256x16x2048, .f32⟩
  | .hbm, ⟨7, _⟩ => ⟨S256x16x2048, .f32⟩
  | .hbm, ⟨8, _⟩ => ⟨S32x16x2048, .f32⟩
  | .hbm, ⟨9, _⟩ => ⟨S_, .f32⟩
  | .hbm, ⟨10, _⟩ => ⟨S32x16, .f32⟩
  | .hbm, ⟨11, _⟩ => ⟨S_, .f32⟩
  | .hbm, ⟨12, _⟩ => ⟨S32x16, .f32⟩
  | .hbm, ⟨13, _⟩ => ⟨S32x16, .f32⟩
  | .hbm, ⟨14, _⟩ => ⟨S16x32, .f32⟩
  | .hbm, ⟨15, _⟩ => ⟨S16x32x1, .f32⟩
  | .hbm, ⟨16, _⟩ => ⟨S16x32x2048, .f32⟩
  | .hbm, ⟨17, _⟩ => ⟨S16x32x2048, .f32⟩
  | .hbm, ⟨18, _⟩ => ⟨S16x32x2048, .f32⟩
  | .hbm, ⟨19, _⟩ => ⟨S16x32x2048, .f32⟩
  | .hbm, ⟨20, _⟩ => ⟨S_, .f32⟩
  | .hbm, ⟨21, _⟩ => ⟨S16x32, .f32⟩
  | .hbm, ⟨22, _⟩ => ⟨S16x32x1, .f32⟩
  | .hbm, ⟨23, _⟩ => ⟨S16x32x2048, .f32⟩
  | .hbm, ⟨24, _⟩ => ⟨S16x32x2048, .f32⟩
  | .hbm, ⟨25, _⟩ => ⟨S16x32x1024, .f32⟩
  | .hbm, ⟨26, _⟩ => ⟨S16x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.Softmax.lean ====
/-
  The mathematics of the readout over the extended reals, free of any program.

  A segment has 2048 rows of 1024 numbers. Each row gets, for each of 32 heads, a score: a weighted sum of hyperbolic
  tangents of weighted sums. A head's readout is the average of the segment's rows under the softmax of its scores.

  * `readoutMax` is the readout as it is usually written: the scores' maximum is subtracted, each weight is divided by
    the sum of all, and then the rows are averaged.
  * `readoutBound` subtracts instead the sum of the absolute values of the head's second-layer weights, averages the
    rows first and divides once at the end.

  `readoutBound_eq_readoutMax`: where the second layer's weights are finite the two are equal, for ALL embeddings and
  first-layer weights, infinite ones among them: a hyperbolic tangent is always a real number, so every score is one.
-/
module

public import Idealize.ShloMosaic.PureOps.Ideal

@[expose] public section

noncomputable section

namespace Cert.Readout

open Idealize.ShloMosaic

/-! ## Real numbers among the extended reals -/

/-- An extended real that is a real number. -/
def IsReal (x : EReal) : Prop := ∃ r : ℝ, x = (r : EReal)

/-- What is neither infinity is a real number. -/
theorem isReal_of_ne {x : EReal} (ht : x ≠ ⊤) (hb : x ≠ ⊥) : IsReal x :=
  ⟨x.toReal, (EReal.coe_toReal ht hb).symm⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- An absolute value, as the larger of a number and its opposite, is real where the number is. -/
theorem IsReal.abs {x : EReal} (hx : IsReal x) : IsReal (max x (-x)) := by
  rcases max_choice x (-x) with h | h <;> rw [h]
  · exact hx
  · obtain ⟨a, rfl⟩ := hx; exact ⟨-a, (EReal.coe_neg a).symm⟩

/-- A number whose absolute value is below `⊤` is real. -/
theorem isReal_of_abs_lt_top {x : EReal} (h : max x (-x) < ⊤) : IsReal x := by
  refine isReal_of_ne (fun e => ?_) (fun e => ?_) <;> subst e <;> simp at h

/-- The sum of a family of real numbers, taken among the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of real numbers is real. -/
theorem isReal_sum {ι : Type} (s : Finset ι) (f : ι → EReal) (h : ∀ i, IsReal (f i)) : IsReal (∑ i ∈ s, f i) := by
  choose g hg using h
  exact ⟨∑ i ∈ s, g i, by rw [← sum_coe]; exact Finset.sum_congr rfl fun i _ => hg i⟩

/-- A hyperbolic tangent is real at every extended real: `-1` and `1` at the infinities. -/
theorem isReal_tanh (x : EReal) : IsReal (Ideal.tanh x) := by
  induction x with
  | bot => exact ⟨-1, by simp⟩
  | top => exact ⟨1, by simp⟩
  | coe r => exact ⟨Real.tanh r, rfl⟩

/-- The maximum of a nonempty family of real numbers, folded from `⊥`, is real. -/
theorem isReal_foldMax {n : ℕ} (hn : 0 < n) (f : Fin n → EReal) (h : ∀ i, IsReal (f i)) :
    IsReal (Finset.univ.fold max ⊥ f) := by
  refine isReal_of_ne (ne_of_lt ?_) (ne_of_gt ?_)
  · exact (Finset.fold_max_lt _).2 ⟨bot_lt_top, fun i _ => lt_top_iff_ne_top.2 (h i).ne_top⟩
  · exact (Finset.lt_fold_max _).2 (.inr ⟨⟨0, hn⟩, Finset.mem_univ _, bot_lt_iff_ne_bot.2 (h _).ne_bot⟩)

/-! ## Softmax averages do not depend on what is subtracted -/

/-- A product with a nonnegative real number distributes over a sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, mul_comm,
      EReal.left_distrib_of_nonneg_of_ne_top (by exact_mod_cast hc) (EReal.coe_ne_top c), mul_comm, ← ih, mul_comm (c : EReal)]

/-- **Averaging under a softmax.** For real scores `s` and any two real numbers `k` and `M`: the average of `x` under
    the weights `exp (s i - k)`, divided once at the end, is the average under the weights `exp (s i - M)`, each
    divided by their sum. The averaged numbers `x i` are any extended reals. -/
theorem softmax_average {n : ℕ} (hn : 0 < n) (s x : Fin n → EReal) (k M : EReal)
    (hs : ∀ i, IsReal (s i)) (hk : IsReal k) (hM : IsReal M) :
    Ideal.div (∑ i, Ideal.exp (s i - k) * x i) (∑ i, Ideal.exp (s i - k))
      = ∑ i, Ideal.div (Ideal.exp (s i - M)) (∑ j, Ideal.exp (s j - M)) * x i := by
  choose σ hσ using hs
  obtain ⟨κ, rfl⟩ := hk
  obtain ⟨μ, rfl⟩ := hM
  have hexp (c : ℝ) (i : Fin n) : Ideal.exp (s i - (c : EReal)) = ((Real.exp (σ i - c) : ℝ) : EReal) := by
    rw [hσ, ← EReal.coe_sub, Ideal.exp_coe]
  have hpos (c : ℝ) : 0 < ∑ i, Real.exp (σ i - c) :=
    Finset.sum_pos (fun i _ => Real.exp_pos _) ⟨⟨0, hn⟩, Finset.mem_univ _⟩
  simp only [hexp, sum_coe]
  rw [Ideal.div_coe (hpos κ).ne', sum_mul_coe _ _ _ (by have := hpos κ; positivity)]
  refine Finset.sum_congr rfl fun i _ => ?_
  rw [Ideal.div_coe (hpos μ).ne', mul_right_comm, ← EReal.coe_mul, ← EReal.coe_mul]
  congr 2
  have key : ∑ j, Real.exp (σ j - κ) = Real.exp (μ - κ) * ∑ j, Real.exp (σ j - μ) := by
    rw [Finset.mul_sum]
    exact Finset.sum_congr rfl fun j _ => by rw [← Real.exp_add]; congr 1; ring
  have e : Real.exp (σ i - κ) = Real.exp (μ - κ) * Real.exp (σ i - μ) := by rw [← Real.exp_add]; congr 1; ring
  rw [key, e]
  have := (hpos μ).ne'
  have := (Real.exp_pos (μ - κ)).ne'
  field_simp

/-! ## The readout -/

/-- The hidden layer of a row `x`: unit `h` is the hyperbolic tangent of the row's product with the weights' row `h`. -/
def hidden (w1 : Fin 256 → Fin 1024 → EReal) (x : Fin 1024 → EReal) (h : Fin 256) : EReal :=
  Ideal.tanh (∑ d, w1 h d * x d)

/-- The score that head `o` gives to a row. -/
def score (w1 : Fin 256 → Fin 1024 → EReal) (w2 : Fin 32 → Fin 256 → EReal) (x : Fin 1024 → EReal) (o : Fin 32) : EReal :=
  ∑ h, w2 o h * hidden w1 x h

/-- The sum of the absolute values of head `o`'s weights: no score of that head lies above it. -/
def bound (w2 : Fin 32 → Fin 256 → EReal) (o : Fin 32) : EReal := ∑ h, max (w2 o h) (-(w2 o h))

/-- Head `o`'s largest score over a segment. -/
def top (w1 : Fin 256 → Fin 1024 → EReal) (w2 : Fin 32 → Fin 256 → EReal) (x : Fin 2048 → Fin 1024 → EReal) (o : Fin 32) : EReal :=
  Finset.univ.fold max ⊥ fun n => score w1 w2 (x n) o

/-- The readout of a segment with the maximum subtracted and the weights normalised before the average. -/
def readoutMax (w1 : Fin 256 → Fin 1024 → EReal) (w2 : Fin 32 → Fin 256 → EReal) (x : Fin 2048 → Fin 1024 → EReal)
    (o : Fin 32) (d : Fin 1024) : EReal :=
  ∑ n, Ideal.div (Ideal.exp (score w1 w2 (x n) o - top w1 w2 x o)) (∑ n', Ideal.exp (score w1 w2 (x n') o - top w1 w2 x o))
    * x n d

/-- The readout of a segment with the bound subtracted and the division at the end. -/
def readoutBound (w1 : Fin 256 → Fin 1024 → EReal) (w2 : Fin 32 → Fin 256 → EReal) (x : Fin 2048 → Fin 1024 → EReal)
    (o : Fin 32) (d : Fin 1024) : EReal :=
  Ideal.div (∑ n, Ideal.exp (score w1 w2 (x n) o - bound w2 o) * x n d) (∑ n, Ideal.exp (score w1 w2 (x n) o - bound w2 o))

/-- Segment `b` of the embeddings: rows `2048 * b` to `2048 * b + 2047`. -/
def segment (X : Fin 32768 → Fin 1024 → EReal) (b : Fin 16) : Fin 2048 → Fin 1024 → EReal :=
  fun n d => X ⟨b.val * 2048 + n.val, by omega⟩ d

/-- With finite second-layer weights every score is real. -/
theorem isReal_score (w1 : Fin 256 → Fin 1024 → EReal) (w2 : Fin 32 → Fin 256 → EReal) (hw : ∀ o h, IsReal (w2 o h))
    (x : Fin 1024 → EReal) (o : Fin 32) : IsReal (score w1 w2 x o) :=
  isReal_sum _ _ fun h => (hw o h).mul (isReal_tanh _)

/-- The two readouts are one function where the second layer's weights are finite. -/
theorem readoutBound_eq_readoutMax (w1 : Fin 256 → Fin 1024 → EReal) (w2 : Fin 32 → Fin 256 → EReal)
    (hw : ∀ o h, IsReal (w2 o h)) (x : Fin 2048 → Fin 1024 → EReal) (o : Fin 32) (d : Fin 1024) :
    readoutBound w1 w2 x o d = readoutMax w1 w2 x o d :=
  softmax_average (by norm_num) (fun n => score w1 w2 (x n) o) (fun n => x n d) _ _
    (fun n => isReal_score w1 w2 hw (x n) o) (isReal_sum _ _ fun h => (hw o h).abs)
    (isReal_foldMax (by norm_num) _ fun n => isReal_score w1 w2 hw (x n) o)

end Cert.Readout

end
-- ==== Proof.Finite.lean ====
/-
  What the precondition says of the second layer's weights: each is a real number.
-/
module

public import proofs.«01_k».proof.Proof.Gen.Pre_weights_finite
public import proofs.«01_k».proof.Proof.Softmax
public import Idealize.ShloMosaic.Lib.Pointwise

@[expose] public section

set_option maxRecDepth 16384

noncomputable section

namespace Cert.Readout.Finite

open Idealize.ShloMosaic Cert.Pre_weights_finite

/-- The pattern of plus infinity is the greatest extended real. -/
theorem ofBits_inf : Ideal.ofBits .f32 0x7F800000#32 = ⊤ := by simp [Ideal.ofBits, Ideal.ieee]

/-- Where the precondition's comparisons are all true, every second-layer weight is a real number. -/
theorem isReal_of_pre (x : FVec Ideal S32768x1024 .f32) (sc : IVec S16x2 32) (w1 : FVec Ideal S256x1024 .f32)
    (w2 : FVec Ideal S32x256 .f32) (h : fn x sc w1 w2 = fun _ => 1#1) (o : Fin 32) (k : Fin 256) :
    IsReal (w2 (ix2 o k)) := by
  have e := congrFun h (ix2 o k)
  refine isReal_of_abs_lt_top ?_
  unfold fn at e
  revert e
  pointwise
  rw [ofBits_inf]
  intro e
  by_contra hn
  rw [show FloatOps.absf (w2 (ix2 o k)) = max (w2 (ix2 o k)) (-(w2 (ix2 o k))) from rfl, decide_eq_false hn] at e
  exact absurd e (by decide)

end Cert.Readout.Finite

end
-- ==== Proof.Block.lean ====
/-
  What the kernel computes at one grid point, on the blocks it has loaded.

  A point holds one segment of the embeddings as two blocks, the left 512 columns and the right 512, and both weight
  arrays whole. `Loads` says so. From them the body's stores are read at an index: the unnormalised weights
  (`weights_apply`), the two halves of the quotient (`left_apply`, `right_apply`), and the two stores together, which
  are the segment's readout `readoutBound` (`out_apply`).
-/
module

public import proofs.«01_k».proof.Proof.Gen.KernelIdeal.Frame
public import proofs.«01_k».proof.Proof.Softmax
public import Idealize.ShloMosaic.Lib.Pointwise
public import Idealize.ShloMosaic.Lib.Pipeline.ValueKit

@[expose] public section

set_option maxRecDepth 16384

noncomputable section

namespace Cert.Readout.Block

open Idealize.ShloMosaic Cert.KernelIdeal Cert.KernelIdeal.Gen

/-- The blocks hold: the left and the right half of a segment `x`, the first layer's weights `w1`, the second's `w2`. -/
structure Loads (xl xr : Vec Ideal S2048x512 .f32) (W1 : Vec Ideal S256x1024 .f32) (W2 : Vec Ideal S32x256 .f32)
    (x : Fin 2048 → Fin 1024 → EReal) (w1 : Fin 256 → Fin 1024 → EReal) (w2 : Fin 32 → Fin 256 → EReal) : Prop where
  left : ∀ n (d : Fin 512), xl (ix2 n d) = x n ⟨d.val, by omega⟩
  right : ∀ n (d : Fin 512), xr (ix2 n d) = x n ⟨512 + d.val, by omega⟩
  fst : ∀ h d, W1 (ix2 h d) = w1 h d
  snd : ∀ o h, W2 (ix2 o h) = w2 o h

variable {xl xr : Vec Ideal S2048x512 .f32} {W1 : Vec Ideal S256x1024 .f32} {W2 : Vec Ideal S32x256 .f32}
  {x : Fin 2048 → Fin 1024 → EReal} {w1 : Fin 256 → Fin 1024 → EReal} {w2 : Fin 32 → Fin 256 → EReal}

/-- A row's product with the first layer's weights, summed over each half of the columns apart, under the hyperbolic
    tangent: the row's hidden layer. -/
theorem hidden_of_halves (x : Fin 1024 → EReal) (h : Fin 256) :
    Ideal.tanh (∑ d : Fin 512, x ⟨d.val, by omega⟩ * w1 h ⟨d.val, by omega⟩
        + ∑ d : Fin 512, x ⟨512 + d.val, by omega⟩ * w1 h ⟨512 + d.val, by omega⟩)
      = hidden w1 x h := by
  unfold hidden
  rw [Fin.sum_univ_two_halves 512 512 rfl (fun d => w1 h d * x d)]
  simp only [mul_comm (w1 h _)]

/-- The unnormalised weight of row `n` for head `o`: the exponential of its score less the head's bound. -/
theorem weights_apply (H : Loads xl xr W1 W2 x w1 w2) (n : Fin 2048) (o : Fin 32) :
    k0_pay3 (F := Ideal) xl xr W1 W2 (ix2 n o) = Ideal.exp (score w1 w2 (x n) o - bound w2 o) := by
  pointwise [k0_pay3, k0_pay1, k0_pay2]
  simp only [H.left, H.right, H.fst, H.snd, hidden_of_halves]
  unfold score bound
  congr 2
  exact Finset.sum_congr rfl fun h _ => mul_comm _ _

/-- The left 512 columns of the readout. -/
theorem left_apply (H : Loads xl xr W1 W2 x w1 w2) (o : Fin 32) (d : Fin 512) :
    k0_pay6 (F := Ideal) xl xr W1 W2 (ix2 o d) = readoutBound w1 w2 x o ⟨d.val, by omega⟩ := by
  pointwise [k0_pay6, k0_pay4, k0_pay5, k0_pay1]
  simp only [weights_apply H, H.left]
  rfl

/-- The right 512 columns of the readout. -/
theorem right_apply (H : Loads xl xr W1 W2 x w1 w2) (o : Fin 32) (d : Fin 512) :
    k0_pay7 (F := Ideal) xl xr W1 W2 (ix2 o d) = readoutBound w1 w2 x o ⟨512 + d.val, by omega⟩ := by
  pointwise [k0_pay7, k0_pay4, k0_pay5, k0_pay2]
  simp only [weights_apply H, H.right]
  rfl

/-- What the point leaves in its output block: the readout of the segment it loaded. -/
theorem out_apply (H : Loads xl xr W1 W2 x w1 w2) (o : Fin 32) (d : Fin 1024) :
    out0_4 (F := Ideal) xl xr W1 W2 (ix2 o d) = readoutBound w1 w2 x o d := by
  frame_out
  canon_tiles y h
  · have e : y = ix2 o ⟨(y 1).val, y1_lt⟩ := by blk_ext; exact h0.symm
    rw [e, right_apply H]
    exact congrArg _ (Fin.ext h1.symm)
  · have e : y = ix2 o ⟨(y 1).val, y1_lt⟩ := by blk_ext; exact h0.symm
    rw [e, left_apply H]
    exact congrArg _ (Fin.ext h1.symm)

end Cert.Readout.Block

end
-- ==== Proof.Array.lean ====
/-
  What the kernel's arrays hold after its run.

  Grid point `t` loads segment `t` of the embeddings in two halves and both weight arrays (`loads`), and writes 32 rows
  of the region's output array, rows `32 * t` to `32 * t + 31`. The sixteen blocks fill that array (`final_apply`). The
  last line of the program lays it out as 16 rows, one per segment (`tail_eq`, `result_apply`); `run` is the run with
  its result so read.
-/
module

public import proofs.«01_k».proof.Proof.Block

@[expose] public section

set_option maxRecDepth 16384

noncomputable section

namespace Cert.Readout.Array

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The embeddings of device `c`, by row and column. -/
abbrev emb (c : Dev nD) (r : Fin 32768) (d : Fin 1024) : EReal :=
  (m ((c.tc : Thread nD τ).loc main_arg0) : FVec Ideal S32768x1024 .f32) (ix2 r d)
/-- The first layer's weights. -/
abbrev fst (c : Dev nD) (h : Fin 256) (d : Fin 1024) : EReal :=
  (m ((c.tc : Thread nD τ).loc main_arg2) : FVec Ideal S256x1024 .f32) (ix2 h d)
/-- The second layer's weights. -/
abbrev snd (c : Dev nD) (o : Fin 32) (h : Fin 256) : EReal :=
  (m ((c.tc : Thread nD τ).loc main_arg3) : FVec Ideal S32x256 .f32) (ix2 o h)

/-- Which block of its array each window holds at point `t`: block `t` of the rows, of the left or the right columns,
    for the embeddings and the output; the whole of both weight arrays. -/
theorem index_eq : ∀ t : Fin grid0.N, win0_0.index t = ![t.val, 0] ∧ win0_1.index t = ![t.val, 1]
    ∧ win0_2.index t = ![0, 0] ∧ win0_3.index t = ![0, 0] ∧ win0_4.index t = ![t.val, 0] := by decide +kernel

/-- The segment of a grid point. -/
abbrev seg (t : Fin cfg0.N) : Fin 16 := ⟨t.val, by have := t.isLt; have : cfg0.N = 16 := N_0; omega⟩

/-- Point `t` loads segment `t`, in halves, and the weights. -/
theorem loads (c : Dev nD) (t : Fin cfg0.N) :
    Block.Loads (iblk m c 0 t) (iblk m c 1 t) (iblk m c 2 t) (iblk m c 3 t)
      (segment (emb m c) (seg t)) (fst m c) (snd m c) := by
  obtain ⟨e0, e1, e2, e3, -⟩ := index_eq t
  constructor
  · intro n d
    unfold segment emb
    blk_ext [iblk, V, e0]
  · intro n d
    unfold segment emb
    blk_ext [iblk, V, e1]
  · intro h d
    unfold fst
    blk_ext [iblk, V, e2]
  · intro o h
    unfold snd
    blk_ext [iblk, V, e3]

/-- Row `r`, column `d` of the region's output array: the readout of segment `r / 32` for head `r % 32`. -/
def outAt (c : Dev nD) (r : Fin 512) (d : Fin 1024) : EReal :=
  readoutBound (fst m c) (snd m c) (segment (emb m c) ⟨r.val / 32, by omega⟩) ⟨r.val % 32, by omega⟩ d

/-- The region's output array. -/
def out (c : Dev nD) : FVec Ideal S512x1024 .f32 := fun i => outAt m c (i 0) (i 1)

/-- Row `o` of block `t` is head `o`'s readout of segment `t`. -/
theorem outAt_block (c : Dev nD) (t : Fin cfg0.N) (o : Fin 32) (d : Fin 1024) (r : Fin 512) (hr : r.val = t.val * 32 + o.val) :
    outAt m c r d = readoutBound (fst m c) (snd m c) (segment (emb m c) (seg t)) o d := by
  have hs : (⟨r.val / 32, by omega⟩ : Fin 16) = seg t := Fin.ext (by show r.val / 32 = t.val; omega)
  have ho : (⟨r.val % 32, by omega⟩ : Fin 32) = o := Fin.ext (by show r.val % 32 = o.val; omega)
  unfold outAt
  rw [hs, ho]

/-- The sixteen blocks written back fill the output array. -/
theorem final_eq (c : Dev nD) : (dats m 0 c).arrAt 4 cfg0.N = out m c := by
  refine (dats m 0 c).arrAt_eq_of_covers 4 _ (by decide +kernel) fun t hf y => ?_
  obtain ⟨-, -, -, -, e4⟩ := index_eq t
  blk_simp
  rw [after0_4]
  obtain ⟨o, d, rfl⟩ : ∃ (o : Fin 32) (d : Fin 1024), y = ix2 o d := ⟨y 0, y 1, by blk_ext⟩
  have hd : ((win0_4.blk t).view.emb (ix2 o d)) 1 = d := Fin.ext (by blk_simp [e4])
  rw [Block.out_apply (loads m c t)]
  unfold out
  rw [hd]
  exact (outAt_block m c t o d _ (by blk_simp [e4])).symm

/-- The program's result, from the output array: its last line lays the array out anew. -/
theorem tail_eq (c : Dev nD) :
    Pipeline.afterTail₀ cfgs (dats m) 0 (V0 m) [hostOps1] c main_v1
      = shapeCast S16x32768 (out m c) shapeCasts_S512x1024_S16x32768 := by
  have h := ((dats m 0 c).withArrays_arrAt sharedIn0 (V0 m c) (A_eq m c) 4).trans (final_eq m c)
  unfold Pipeline.afterTail₀
  simp only [hostOps1, List.flatten_cons, List.flatten_nil, List.append_nil, StableHlo.after_cons, StableHlo.after_nil]
  rw [StableHlo.reshape_result']
  exact congrArg (fun v : FVec Ideal S512x1024 .f32 => shapeCast S16x32768 v shapeCasts_S512x1024_S16x32768) h

/-- The result of the kernel. -/
def result (c : Dev nD) : FVec Ideal S16x32768 .f32 := shapeCast S16x32768 (out m c) shapeCasts_S512x1024_S16x32768

/-- The result at an index: the readout with the bound subtracted. -/
theorem result_apply (c : Dev nD) (b : Fin 16) (j : Fin 32768) :
    result m c (ix2 b j)
      = readoutBound (fst m c) (snd m c) (segment (emb m c) b) ⟨j.val / 1024, by omega⟩ ⟨j.val % 1024, by omega⟩ := by
  pointwise [result]
  have hb := b.isLt
  have hj : j.val / 1024 < 32 := by omega
  exact outAt_block m c ⟨b.val, by rw [show cfg0.N = 16 from N_0]; exact hb⟩ ⟨j.val / 1024, hj⟩ _ _ rfl

/-- **The run of the kernel**: its result is `result` of the arguments, which end unchanged. -/
theorem run : θ_run (defs (F := Ideal)) (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨((h.1 c).2 main_v1 (Pipeline.mem_restRefs_of main_v1 (by decide) (by decide))).trans
      (tail_eq m c), h.2 c⟩) (θ_run_and (run_main m ρ) (unchanged m ρ))

end Cert.Readout.Array

end
-- ==== Proof.Reference.lean ====
/-
  What the reference computes.

  Its run's result is one long term of array operations. It is named here in five steps (`segs`, `scores`, `tops`,
  `exps`, `averages`), each read at an index, and the result at segment `b` and position `j` is then the readout
  `readoutMax` of head `j / 1024` and column `j % 1024` (`result_apply`). `run` is the run with its result so read.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.Readout.Reference

open Idealize.ShloMosaic Idealize.ShloMosaic.TcCoe Idealize.SL.Sem Cert.ReferenceIdeal Cert.ReferenceIdeal.Gen

/-- The embeddings cut into segments. -/
def segs (x : FVec Ideal S32768x1024 .f32) : FVec Ideal S16x2048x1024 .f32 :=
  shapeCast _ x shapeCasts_S32768x1024_S16x2048x1024

/-- The scores, by head, segment and row. -/
def scores (x : FVec Ideal S16x2048x1024 .f32) (w1 : FVec Ideal S256x1024 .f32) (w2 : FVec Ideal S32x256 .f32) :
    FVec Ideal S32x16x2048 .f32 :=
  Host.dotGeneral dot_S32x256_S256x16x2048_S32x16x2048_1_0_0_12_n_n none w2
    (Host.tanh (Host.dotGeneral dot_S256x1024_S16x1024x2048_S256x16x2048_1_1_0_02_n_n none w1
      (transpose S16x1024x2048 [0, 2, 1] x transposes_S16x2048x1024_S16x1024x2048_0_2_1)))

/-- Each head's largest score in each segment, never below minus infinity. -/
def tops (s : FVec Ideal S32x16x2048 .f32) : FVec Ideal S32x16 .f32 :=
  maximumf (broadcastInDim S32x16 ![] bcast_S_S32x16 (constant S_ .f32 0xFF800000#32))
    (Host.reduce FloatOps.maximumf s (constant S_ .f32 0xFF800000#32) reducesTo_S32x16x2048_S32x16_d2 h_S_)

/-- The exponentials of the scores less their maximum `t`, by segment, head and row. -/
def exps (s : FVec Ideal S32x16x2048 .f32) (t : FVec Ideal S32x16 .f32) : FVec Ideal S16x32x2048 .f32 :=
  Host.exp (subf (transpose S16x32x2048 [1, 0, 2] s transposes_S32x16x2048_S16x32x2048_1_0_2)
    (broadcastInDim S16x32x2048 ![0, 1, 2] bcast_S16x32x1_S16x32x2048_0_1_2
      (broadcastInDim S16x32x1 ![0, 1] bcast_S16x32_S16x32x1_0_1 (transpose S16x32 [1, 0] t transposes_S32x16_S16x32_1_0))))

/-- The averages of a segment's rows under the normalised weights `e`. -/
def averages (e : FVec Ideal S16x32x2048 .f32) (x : FVec Ideal S16x2048x1024 .f32) : FVec Ideal S16x32x1024 .f32 :=
  Host.dotGeneral dot_S16x32x2048_S16x2048x1024_S16x32x1024_2_1_1_2_0_0 none
    (Host.divf e (broadcastInDim S16x32x2048 ![0, 1, 2] bcast_S16x32x1_S16x32x2048_0_1_2
      (broadcastInDim S16x32x1 ![0, 1] bcast_S16x32_S16x32x1_0_1
        (Host.reduceAdd e (constant S_ .f32 0x00000000#32) reducesTo_S16x32x2048_S16x32_d2 h_S_)))) x

/-- Row `n` of segment `b`. -/
theorem segs_apply (x : FVec Ideal S32768x1024 .f32) (b : Fin 16) (n : Fin 2048) (d : Fin 1024) :
    segs x (ix3 b n d) = segment (fun r d => x (ix2 r d)) b n d := by
  pointwise [segs]
  rfl

/-- The score of head `o` for row `n` of segment `b`. -/
theorem scores_apply (x : FVec Ideal S16x2048x1024 .f32) (w1 : FVec Ideal S256x1024 .f32) (w2 : FVec Ideal S32x256 .f32)
    (o : Fin 32) (b : Fin 16) (n : Fin 2048) :
    scores x w1 w2 (ix3 o b n) = score (fun h d => w1 (ix2 h d)) (fun o h => w2 (ix2 o h)) (fun d => x (ix3 b n d)) o := by
  pointwise [scores]
  rfl

/-- The pattern of minus infinity is the least extended real. -/
theorem ofBits_neg_inf : Ideal.ofBits .f32 0xFF800000#32 = ⊥ := by simp [Ideal.ofBits, Ideal.ieee]

/-- The largest of a head's scores in a segment. -/
theorem tops_apply (s : FVec Ideal S32x16x2048 .f32) (o : Fin 32) (b : Fin 16) :
    tops s (ix2 o b) = Finset.univ.fold max ⊥ fun n : Fin 2048 => s (ix3 o b n) := by
  pointwise [tops]
  rw [ofBits_neg_inf, max_eq_right bot_le]

/-- The exponential of a score less its head's maximum. -/
theorem exps_apply (s : FVec Ideal S32x16x2048 .f32) (t : FVec Ideal S32x16 .f32) (b : Fin 16) (o : Fin 32) (n : Fin 2048) :
    exps s t (ix3 b o n) = Ideal.exp (s (ix3 o b n) - t (ix2 o b)) := by
  pointwise [exps]

/-- The average of a segment's rows, each weight divided by the sum of all. -/
theorem averages_apply (e : FVec Ideal S16x32x2048 .f32) (x : FVec Ideal S16x2048x1024 .f32) (b : Fin 16) (o : Fin 32)
    (d : Fin 1024) :
    averages e x (ix3 b o d) = ∑ n : Fin 2048, Ideal.div (e (ix3 b o n)) (∑ n' : Fin 2048, e (ix3 b o n')) * x (ix3 b n d) := by
  pointwise [averages]

/-- The result of the reference, from the embeddings and both layers' weights. -/
def result (x : FVec Ideal S32768x1024 .f32) (w1 : FVec Ideal S256x1024 .f32) (w2 : FVec Ideal S32x256 .f32) :
    FVec Ideal S16x32768 .f32 :=
  shapeCast S16x32768 (averages (exps (scores (segs x) w1 w2) (tops (scores (segs x) w1 w2))) (segs x))
    shapeCasts_S16x32x1024_S16x32768

/-- The result at an index: the readout with the maximum subtracted. -/
theorem result_apply (x : FVec Ideal S32768x1024 .f32) (w1 : FVec Ideal S256x1024 .f32) (w2 : FVec Ideal S32x256 .f32)
    (b : Fin 16) (j : Fin 32768) :
    result x w1 w2 (ix2 b j)
      = readoutMax (fun h d => w1 (ix2 h d)) (fun o h => w2 (ix2 o h)) (segment (fun r d => x (ix2 r d)) b)
          ⟨j.val / 1024, by omega⟩ ⟨j.val % 1024, by omega⟩ := by
  pointwise [result]
  simp only [averages_apply, exps_apply, tops_apply, scores_apply, segs_apply]
  rfl

/-- **The run of the reference**: its result is `result` of the arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
        = result (m ((c.tc : Thread nD τ).loc main_arg0)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

end Cert.Readout.Reference

end
-- ==== Proof.lean ====
/-
  The claims about the kernel, the kernel at the extended reals and the reference, put together.

  The three frames and the two under the precondition come from the programs' runs. The value claim is one equation
  (`result_eq`): where the second layer's weights are finite, the kernel's result is the reference's at every index.
-/
module

public import proofs.«01_k».proof.Defs
public import proofs.«01_k».proof.Proof.Gen.Kernel.Frame
public import proofs.«01_k».proof.Proof.Gen.Pre_weights_finite
public import proofs.«01_k».proof.Proof.Finite
public import proofs.«01_k».proof.Proof.Array
public import proofs.«01_k».proof.Proof.Reference
public import Idealize.ShloMosaic.Lib.Quiescent

@[expose] public section

noncomputable section

namespace Cert.Proof

open Idealize.ShloMosaic Idealize.ShloMosaic.TcCoe Idealize.SL.Sem

/-- The two results are one array: at an index each is a readout of the same segment, head and column, and the two
    readouts agree where the second layer's weights are real numbers. -/
theorem result_eq (m : (ℓ : Loc Cert.KernelIdeal.nD Cert.KernelIdeal.τ Cert.KernelIdeal.sig) → Buf (Elt Ideal) ℓ)
    (c : Dev Cert.KernelIdeal.nD) (hw : ∀ o h, Cert.Readout.IsReal (Cert.Readout.Array.snd m c o h)) :
    Cert.Readout.Array.result m c
      = Cert.Readout.Reference.result (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext i
  obtain ⟨b, j, rfl⟩ : ∃ (b : Fin 16) (j : Fin 32768), i = ix2 b j := ⟨i 0, i 1, by blk_ext⟩
  rw [Cert.Readout.Array.result_apply, Cert.Readout.Reference.result_apply]
  exact Cert.Readout.readoutBound_eq_readoutMax _ _ hw _ _ _

/-- The reference leaves its arguments as they were, and it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.Readout.Reference.run m ρ)

/-- **The value claim**: from equal arguments with finite second-layer weights the kernel and the reference end with
    equal results. -/
theorem algebraic : Cert.algebraic_KernelIdeal_ReferenceIdeal_pre_weights_finite := by
  intro m ρ m' ρ' hpre hagree
  refine ⟨Cert.Readout.Array.result m, Cert.Readout.Array.run m ρ, ?_⟩
  refine (θ_run Cert.ReferenceIdeal.defs _ _).mono (fun _ h c => ⟨(h c).1.trans ?_, (h c).2⟩)
    (Cert.Readout.Reference.run m' ρ')
  rw [(hagree c).1, (hagree c).2.2.1, (hagree c).2.2.2]
  exact (result_eq m c fun o k => Cert.Readout.Finite.isReal_of_pre _ _ _ _ (hpre c) o k).symm

theorem claim : Cert.Claim :=
  ⟨Cert.Kernel.Gen.facts, Cert.KernelIdeal.Gen.facts, Cert.ReferenceIdeal.Gen.facts, Cert.Pre_weights_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
